-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x32x8x8x8 : Shape := ⟨5, ![256, 32, 8, 8, 8]⟩
abbrev S1024x16384 : Shape := ⟨2, ![1024, 16384]⟩
abbrev S256x16384 : Shape := ⟨2, ![256, 16384]⟩
abbrev S16384x256 : Shape := ⟨2, ![16384, 256]⟩
abbrev S1x256 : Shape := ⟨2, ![1, 256]⟩
abbrev S256 : Shape := ⟨1, ![256]⟩
abbrev S256x256 : Shape := ⟨2, ![256, 256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S256x32x8x8x8, .f32⟩
  | .hbm, ⟨1, _⟩ => ⟨S1024x16384, .f32⟩
  | .hbm, ⟨2, _⟩ => ⟨S256x16384, .f32⟩
  | .hbm, ⟨3, _⟩ => ⟨S16384x256, .f32⟩
  | .hbm, ⟨4, _⟩ => ⟨S1x256, .i32⟩
  | .hbm, ⟨5, _⟩ => ⟨S256, .i32⟩
  | .local _ .vmem, ⟨0, _⟩ => ⟨S16384x256, .f32⟩
  | .local _ .vmem, ⟨1, _⟩ => ⟨S256x16384, .f32⟩
  | .local _ .vmem, ⟨2, _⟩ => ⟨S256x16384, .f32⟩
  | .local _ .vmem, ⟨3, _⟩ => ⟨S1x256, .i32⟩
  | .local _ .vmem, ⟨4, _⟩ => ⟨S1x256, .f32⟩
  | .local _ .vmem, ⟨5, _⟩ => ⟨S1x256, .f32⟩
  | .local _ .vmem, ⟨6, _⟩ => ⟨S1x256, .i32⟩
  | _, _ => ⟨S256x32x8x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_cond4 (i : grid0.Coords) : BitVec 1 :=
  let arg0 : BitVec 32 := BitVec.ofNat 32 (i 0).val
  let c3_i32 : BitVec 32 := 3#32
  let v36 : BitVec 1 := Scalar.cmpi .eq arg0 c3_i32
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S256x32x8x8x8 : Shape := ⟨5, ![256, 32, 8, 8, 8]⟩
abbrev S1024x16384 : Shape := ⟨2, ![1024, 16384]⟩
abbrev S256x16384 : Shape := ⟨2, ![256, 16384]⟩
abbrev S_ : Shape := ⟨0, ![]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S256x32x8x8x8, .f32⟩
  | .hbm, ⟨1, _⟩ => ⟨S1024x16384, .f32⟩
  | .hbm, ⟨2, _⟩ => ⟨S256x16384, .f32⟩
  | .hbm, ⟨3, _⟩ => ⟨S256x16384, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S1024x16384, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S16384x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .i32⟩
  | .hbm, ⟨21, _⟩ => ⟨S_, .f32⟩
  | .hbm, ⟨22, _⟩ => ⟨S_, .i32⟩
  | .hbm, ⟨23, _⟩ => ⟨S256, .f32⟩
  | .hbm, ⟨24, _⟩ => ⟨S256, .i32⟩
  | _, _ => ⟨S256x32x8x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Scratch.lean ====
/-
  What the kernel's body leaves in its three carried buffers and in its output block, per case of its conditionals,
  as its own payloads of the blocks it reads: at the first point the squared norms of the batch rows, the first
  block's minima and their positions; at each later point the norms unchanged and the two running rows updated where
  the block's minimum is smaller; at the last point the positions are also the output.
-/
module

public import proofs.«01_k».proof.Proof.Gen.KernelIdeal.Frame
public import Idealize.ShloMosaic.Lib.Pipeline.Value
public import Idealize.ShloMosaic.Lib.Tactic

@[expose] public section

noncomputable section

namespace Cert.Proof.Scratch

open Cert.KernelIdeal Cert.KernelIdeal.Gen
open Idealize.ShloMosaic Idealize.ShloMosaic.TcCoe Idealize.SL.Sem
open Idealize.ShloMosaic.Pipeline (Dat)

variable {F : FTy → Type} [FloatOps F]

/-- The offset of every access of the body is the zero offset. -/
theorem hz : (![0, 0] : Fin 2 → Nat) = fun _ => 0 := funext fun a => by fin_cases a <;> rfl

variable (c : Dev nD) (i : grid0.Coords)
  (arg1 : Memref sig .tc .vmem S16384x256 .f32) (harg1 : arg1.IsWhole)
  (arg2 : Memref sig .tc .vmem S256x16384 .f32) (harg2 : arg2.IsWhole)
  (arg3 : Memref sig .tc .vmem S1x256 .i32) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .i32) (harg6 : arg6.IsWhole)
  (x0 : Vec F S16384x256 .f32) (x1 : Vec F S256x16384 .f32)
  (xs0 : Vec F S1x256 .f32) (xs1 : Vec F S1x256 .f32) (xs2 : Vec F S1x256 .i32)

/-- The first point leaves the batch rows' squared norms in the first carried buffer. -/
theorem sout_A_0 (hc0 : cond0_0 i) (hc1 : cond0_1 i) (hc2 : ¬cond0_2 i) (hc3 : ¬cond0_3 i) :
    sout0_A_0 c i arg1 harg1 arg2 harg2 arg3 harg3 arg4 harg4 arg5 harg5 arg6 harg6 hc0 hc1 hc2 hc3 x0 x1
      = k0_pay4 x0 := by
  unfold sout0_A_0
  rw [View.read_writes_eq_canon _ _ _ (scover0_A_0 c i arg1 harg1 arg2 harg2 arg3 harg3 arg4 harg4 arg5 harg5 arg6 harg6 hc0 hc1 hc2 hc3 x0 x1)]
  unfold kernelRun0_A
  dsimp only
  sl_unfold_words
  rw [View.canon_unit_zero hz]
  simp only [View.readAt_eq_ld, harg1.read_unread, View.ld_unit_zero (S := S16384x256) hz]

/-- The first point leaves the first block's minima in the second carried buffer. -/
theorem sout_A_1 (hc0 : cond0_0 i) (hc1 : cond0_1 i) (hc2 : ¬cond0_2 i) (hc3 : ¬cond0_3 i) :
    sout0_A_1 c i arg1 harg1 arg2 harg2 arg3 harg3 arg4 harg4 arg5 harg5 arg6 harg6 hc0 hc1 hc2 hc3 x0 x1
      = k0_pay8 x1 x0 x1 (k0_pay4 x0) := by
  unfold sout0_A_1
  rw [View.read_writes_eq_canon _ _ _ (scover0_A_1 c i arg1 harg1 arg2 harg2 arg3 harg3 arg4 harg4 arg5 harg5 arg6 harg6 hc0 hc1 hc2 hc3 x0 x1)]
  unfold kernelRun0_A
  dsimp only
  sl_unfold_words
  rw [View.canon_unit_zero hz, View.readCov_unit_zero (S := S1x256) _ hz]
  simp only [View.readAt_eq_ld, harg1.read_unread, harg2.read_unread, View.ld_unit_zero (S := S16384x256) hz,
    View.ld_unit_zero (S := S256x16384) hz]

/-- The first point leaves the positions of the first block's minima in the third carried buffer. -/
theorem sout_A_2 (hc0 : cond0_0 i) (hc1 : cond0_1 i) (hc2 : ¬cond0_2 i) (hc3 : ¬cond0_3 i) :
    sout0_A_2 c i arg1 harg1 arg2 harg2 arg3 harg3 arg4 harg4 arg5 harg5 arg6 harg6 hc0 hc1 hc2 hc3 x0 x1
      = k0_pay9 i x1 x0 x1 (k0_pay4 x0) := by
  unfold sout0_A_2
  rw [View.read_writes_eq_canon _ _ _ (scover0_A_2 c i arg1 harg1 arg2 harg2 arg3 harg3 arg4 harg4 arg5 harg5 arg6 harg6 hc0 hc1 hc2 hc3 x0 x1)]
  unfold kernelRun0_A
  dsimp only
  sl_unfold_words
  rw [View.canon_unit_zero hz, View.readCov_unit_zero (S := S1x256) _ hz]
  simp only [View.readAt_eq_ld, harg1.read_unread, harg2.read_unread, View.ld_unit_zero (S := S16384x256) hz,
    View.ld_unit_zero (S := S256x16384) hz]

/-- A middle point leaves in the second carried buffer the smaller of the block's minima and what it held. -/
theorem sout_B_1 (hc0 : ¬cond0_0 i) (hc1 : ¬cond0_1 i) (hc2 : cond0_2 i) (hc3 : ¬cond0_3 i) :
    sout0_B_1 c i arg1 harg1 arg2 harg2 arg3 harg3 arg4 harg4 arg5 harg5 arg6 harg6 hc0 hc1 hc2 hc3 x0 x1 xs0 xs1 xs2
      = k0_pay2 (k0_pay6 x1 x0 x1 xs0) xs1 xs1 := by
  unfold sout0_B_1
  rw [View.read_writes_eq_canon _ _ _ (scover0_B_1 c i arg1 harg1 arg2 harg2 arg3 harg3 arg4 harg4 arg5 harg5 arg6 harg6 hc0 hc1 hc2 hc3 x0 x1 xs0 xs1 xs2)]
  unfold kernelRun0_B
  dsimp only
  sl_unfold_words
  rw [View.canon_unit_zero hz]
  simp only [View.readAt_eq_ld, harg1.read_unread, harg2.read_unread, harg4.read_unread, harg5.read_unread,
    View.ld_unit_zero (S := S16384x256) hz, View.ld_unit_zero (S := S256x16384) hz, View.ld_unit_zero (S := S1x256) hz]

/-- A middle point leaves in the third carried buffer the block's position where its minimum is smaller. -/
theorem sout_B_2 (hc0 : ¬cond0_0 i) (hc1 : ¬cond0_1 i) (hc2 : cond0_2 i) (hc3 : ¬cond0_3 i) :
    sout0_B_2 c i arg1 harg1 arg2 harg2 arg3 harg3 arg4 harg4 arg5 harg5 arg6 harg6 hc0 hc1 hc2 hc3 x0 x1 xs0 xs1 xs2
      = k0_pay3 (k0_pay6 x1 x0 x1 xs0) (k0_pay7 i x1 x0 x1 xs0) xs1 xs2 := by
  unfold sout0_B_2
  rw [View.read_writes_eq_canon _ _ _ (scover0_B_2 c i arg1 harg1 arg2 harg2 arg3 harg3 arg4 harg4 arg5 harg5 arg6 harg6 hc0 hc1 hc2 hc3 x0 x1 xs0 xs1 xs2)]
  unfold kernelRun0_B
  dsimp only
  sl_unfold_words
  rw [View.canon_unit_zero hz]
  simp only [View.readAt_eq_ld, harg1.read_unread, harg2.read_unread, harg4.read_unread, harg5.read_unread,
    harg6.read_unread,
    View.ld_unit_zero (S := S16384x256) hz, View.ld_unit_zero (S := S256x16384) hz, View.ld_unit_zero (S := S1x256) hz]

/-- The last point leaves in its output block the updated positions. -/
theorem out_C_2 (hc0 : ¬cond0_0 i) (hc1 : ¬cond0_1 i) (hc2 : cond0_2 i) (hc3 : cond0_3 i) :
    out0_C_2 c i arg1 harg1 arg2 harg2 arg3 harg3 arg4 harg4 arg5 harg5 arg6 harg6 hc0 hc1 hc2 hc3 x0 x1 xs0 xs1 xs2
      = k0_pay3 (k0_pay6 x1 x0 x1 xs0) (k0_pay7 i x1 x0 x1 xs0) xs1 xs2 := by
  unfold out0_C_2
  rw [View.read_writes_eq_canon _ _ _ (cover0_C_2 c i arg1 harg1 arg2 harg2 arg3 harg3 arg4 harg4 arg5 harg5 arg6 harg6 hc0 hc1 hc2 hc3 x0 x1 xs0 xs1 xs2)]
  unfold kernelRun0_C
  dsimp only
  sl_unfold_words
  rw [View.canon_unit_zero hz, View.readCov_unit_zero (S := S1x256) _ hz]
  simp only [View.readAt_eq_ld, harg1.read_unread, harg2.read_unread, harg4.read_unread, harg5.read_unread,
    harg6.read_unread,
    View.ld_unit_zero (S := S16384x256) hz, View.ld_unit_zero (S := S256x16384) hz, View.ld_unit_zero (S := S1x256) hz]

end Cert.Proof.Scratch

end
-- ==== Proof.RefRun.lean ====
/-
  The run of the REFERENCE program: @main is a straight line of host operations over HBM buffers, the last five
  those of the call of @argmin. Every weakly fair execution terminates with the result buffer holding the composed
  value `refOut` of the two arguments, the arguments unchanged and every semaphore counter zero.
-/
module

public import Idealize.ShloMosaic.Lib.StableHlo.Run
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The flattened input: one row per batch entry. -/
def flat (a0 : (⟨S256x32x8x8x8, .f32⟩ : BufTy).Contents (Elt F)) : FVec F S256x16384 .f32 :=
  shapeCast S256x16384 a0 shapeCasts_S256x32x8x8x8_S256x16384

/-- The matrix of distances as the reference computes it, from the flattened input and the table. -/
def dist (x : FVec F S256x16384 .f32) (e : FVec F S1024x16384 .f32) : FVec F S256x1024 .f32 :=
  subf
    (addf
      (broadcastInDim S256x1024 ![0, 1] bcast_S256x1_S256x1024_0_1
        (broadcastInDim S256x1 ![0] bcast_S256_S256x1_0
          (Host.reduceAdd (mulf x x) (constant S_ .f32 0x00000000#32) reducesTo_S256x16384_S256_d1 h_S_)))
      (broadcastInDim S256x1024 ![0, 1] bcast_S1x1024_S256x1024_0_1
        (broadcastInDim S1x1024 ![1] bcast_S1024_S1x1024_1
          (Host.reduceAdd (mulf e e) (constant S_ .f32 0x00000000#32) reducesTo_S1024x16384_S1024_d1 h_S_))))
    (mulf (broadcastInDim S256x1024 ![] bcast_S_S256x1024 (constant S_ .f32 0x40000000#32))
      (Host.dotGeneral dot_S256x16384_S16384x1024_S256x1024_1_0_0_1_n_n none x
        (transpose S16384x1024 [1, 0] e transposes_S1024x16384_S16384x1024_1_0)))

/-- The position of each row's least entry, as the reference computes it. -/
def argmin (d : FVec F S256x1024 .f32) : IVec S256 32 := fun j =>
  (Host.argReduce reducer_argmin_f32_i32 d (iotaInDim S256x1024 32 1) (constant S_ .f32 0x7F800000#32)
    (constantI S_ 32 0#32) reducesTo_S256x1024_S256_d1 h_S_ j).2

/-- The reference's result, of its two arguments. -/
def refOut (a0 : (⟨S256x32x8x8x8, .f32⟩ : BufTy).Contents (Elt F)) (a1 : FVec F S1024x16384 .f32) : IVec S256 32 :=
  argmin (dist (flat a0) a1)

/-- The reference's operations, in order. -/
abbrev ops : List (HloOp τ sig (Elt F)) :=
  [ StableHlo.reshape main_arg0 main_v0 (rfl : (.f32 : EltTy) = .f32) shapeCasts_S256x32x8x8x8_S256x16384,
    StableHlo.binary main_v0 main_v0 main_v1 (mulf : (⟨S256x16384, .f32⟩ : BufTy).Contents (Elt F) → (⟨S256x16384, .f32⟩ : BufTy).Contents (Elt F) → (⟨S256x16384, .f32⟩ : BufTy).Contents (Elt F)),
    StableHlo.nullary main_cst (constant S_ .f32 0x00000000#32),
    StableHlo.binary main_v1 main_cst main_v2 ((fun x v => Host.reduceAdd x v reducesTo_S256x16384_S256_d1 h_S_) : (⟨S256x16384, .f32⟩ : BufTy).Contents (Elt F) → (⟨S_, .f32⟩ : BufTy).Contents (Elt F) → (⟨S256, .f32⟩ : BufTy).Contents (Elt F)),
    StableHlo.unary main_v2 main_v3 (broadcastInDim S256x1 ![0] bcast_S256_S256x1_0 : (⟨S256, .f32⟩ : BufTy).Contents (Elt F) → (⟨S256x1, .f32⟩ : BufTy).Contents (Elt F)),
    StableHlo.binary main_arg1 main_arg1 main_v4 (mulf : (⟨S1024x16384, .f32⟩ : BufTy).Contents (Elt F) → (⟨S1024x16384, .f32⟩ : BufTy).Contents (Elt F) → (⟨S1024x16384, .f32⟩ : BufTy).Contents (Elt F)),
    StableHlo.nullary main_cst_0 (constant S_ .f32 0x00000000#32),
    StableHlo.binary main_v4 main_cst_0 main_v5 ((fun x v => Host.reduceAdd x v reducesTo_S1024x16384_S1024_d1 h_S_) : (⟨S1024x16384, .f32⟩ : BufTy).Contents (Elt F) → (⟨S_, .f32⟩ : BufTy).Contents (Elt F) → (⟨S1024, .f32⟩ : BufTy).Contents (Elt F)),
    StableHlo.unary main_v5 main_v6 (broadcastInDim S1x1024 ![1] bcast_S1024_S1x1024_1 : (⟨S1024, .f32⟩ : BufTy).Contents (Elt F) → (⟨S1x1024, .f32⟩ : BufTy).Contents (Elt F)),
    StableHlo.unary main_v3 main_v7 (broadcastInDim S256x1024 ![0, 1] bcast_S256x1_S256x1024_0_1 : (⟨S256x1, .f32⟩ : BufTy).Contents (Elt F) → (⟨S256x1024, .f32⟩ : BufTy).Contents (Elt F)),
    StableHlo.unary main_v6 main_v8 (broadcastInDim S256x1024 ![0, 1] bcast_S1x1024_S256x1024_0_1 : (⟨S1x1024, .f32⟩ : BufTy).Contents (Elt F) → (⟨S256x1024, .f32⟩ : BufTy).Contents (Elt F)),
    StableHlo.binary main_v7 main_v8 main_v9 (addf : (⟨S256x1024, .f32⟩ : BufTy).Contents (Elt F) → (⟨S256x1024, .f32⟩ : BufTy).Contents (Elt F) → (⟨S256x1024, .f32⟩ : BufTy).Contents (Elt F)),
    StableHlo.unary main_arg1 main_v10 ((transpose S16384x1024 [1, 0] · transposes_S1024x16384_S16384x1024_1_0) : (⟨S1024x16384, .f32⟩ : BufTy).Contents (Elt F) → (⟨S16384x1024, .f32⟩ : BufTy).Contents (Elt F)),
    StableHlo.binary main_v0 main_v10 main_v11 ((fun l r => Host.dotGeneral dot_S256x16384_S16384x1024_S256x1024_1_0_0_1_n_n none l r) : (⟨S256x16384, .f32⟩ : BufTy).Contents (Elt F) → (⟨S16384x1024, .f32⟩ : BufTy).Contents (Elt F) → (⟨S256x1024, .f32⟩ : BufTy).Contents (Elt F)),
    StableHlo.nullary main_cst_1 (constant S_ .f32 0x40000000#32),
    StableHlo.unary main_cst_1 main_v12 (broadcastInDim S256x1024 ![] bcast_S_S256x1024 : (⟨S_, .f32⟩ : BufTy).Contents (Elt F) → (⟨S256x1024, .f32⟩ : BufTy).Contents (Elt F)),
    StableHlo.binary main_v12 main_v11 main_v13 (mulf : (⟨S256x1024, .f32⟩ : BufTy).Contents (Elt F) → (⟨S256x1024, .f32⟩ : BufTy).Contents (Elt F) → (⟨S256x1024, .f32⟩ : BufTy).Contents (Elt F)),
    StableHlo.binary main_v9 main_v13 main_v14 (subf : (⟨S256x1024, .f32⟩ : BufTy).Contents (Elt F) → (⟨S256x1024, .f32⟩ : BufTy).Contents (Elt F) → (⟨S256x1024, .f32⟩ : BufTy).Contents (Elt F)),
    StableHlo.TRef.nullary main_call0.v0 (iotaInDim S256x1024 32 1),
    StableHlo.TRef.nullary main_call0.cst (constant S_ .f32 0x7F800000#32),
    StableHlo.TRef.nullary main_call0.c (constantI S_ 32 0#32),
    StableHlo.TRef.quaternary (.of main_v14) main_call0.v0 main_call0.cst main_call0.c main_call0.v1_0 (fun x y u v j => (Host.argReduce reducer_argmin_f32_i32 x y u v reducesTo_S256x1024_S256_d1 h_S_ j).1),
    StableHlo.TRef.quaternary (.of main_v14) main_call0.v0 main_call0.cst main_call0.c main_call0.v1_1 (fun x y u v j => (Host.argReduce reducer_argmin_f32_i32 x y u v reducesTo_S256x1024_S256_d1 h_S_ j).2) ]

/-- The reference's main function is that straight line. -/
theorem main_eq (c : Dev nD) : main (F := F) c = seq ops := rfl

/-- The fold of the operations at the result buffer is `refOut` of the arguments. -/
theorem out_eq (V : Valuation τ sig (Elt F)) :
    after ops V (main_v15 : DevRef τ sig)
      = refOut (V (main_arg0 : DevRef τ sig)) (V (main_arg1 : DevRef τ sig)) := by
  after_results
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-- Nothing is scoped on this signature: no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., binary_bufs_sub .., unary_bufs_sub .., unary_bufs_sub ..,
    unary_bufs_sub .., binary_bufs_sub .., unary_bufs_sub .., binary_bufs_sub .., nullary_bufs_sub ..,
    unary_bufs_sub .., binary_bufs_sub .., binary_bufs_sub .., nullary_bufs_sub .., nullary_bufs_sub ..,
    nullary_bufs_sub .., quaternary_bufs_sub .., quaternary_bufs_sub ..⟩

/-- The run of the reference: from any memory with zero counters every weakly fair execution terminates, the result
    is `refOut` of the arguments and the arguments are unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v15)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v15).trans (out_eq _),
      (h c main_arg0).trans (arg0_eq _), (h c main_arg1).trans (arg1_eq _)⟩)
    (run_seq scopedRefs_eq scopedSems_eq defs main (fun _ => ops) main_eq (fun _ => ops_sub) m ρ)

end Cert.Proof.Ref

end
-- ==== Proof.First.lean ====
/-
  The first least entry of a range, with no program in sight: `FirstIn` says a value and a 32-bit word are the value
  and the position of it; it is unique, two neighbouring ranges join, and a fold by an operation that picks the
  lesser of its two operands ends at a least one, in a list's order or in none.
-/
module

public import Mathlib.Data.EReal.Basic
public import Mathlib.Data.Finset.Fold
public import Mathlib.Tactic.Linarith

@[expose] public section

namespace Cert.Proof.First

/-- `v` and `w` are the value and the position of the first least entry of `d` among positions `lo ≤ k < hi`. -/
def FirstIn (d : Fin 1024 → EReal) (lo hi : ℕ) (v : EReal) (w : BitVec 32) : Prop :=
  ∃ k : Fin 1024, lo ≤ k.val ∧ k.val < hi ∧ v = d k ∧ w = BitVec.ofNat 32 k.val
    ∧ ∀ l : Fin 1024, lo ≤ l.val → l.val < hi → d k < d l ∨ (d k = d l ∧ k.val ≤ l.val)

/-- There is one first least entry: two positions of it agree. -/
theorem FirstIn.word_unique {d : Fin 1024 → EReal} {lo hi : ℕ} {v v' : EReal} {w w' : BitVec 32}
    (h : FirstIn d lo hi v w) (h' : FirstIn d lo hi v' w') : w = w' := by
  obtain ⟨k, h1, h2, -, hw, hk⟩ := h
  obtain ⟨k', h1', h2', -, hw', hk'⟩ := h'
  have e : k.val = k'.val := by
    rcases hk k' h1' h2' with a | ⟨a, b⟩
    · rcases hk' k h1 h2 with a' | ⟨a', b'⟩
      · exact absurd (a.trans a') (lt_irrefl _)
      · exact absurd (a'.symm ▸ a) (lt_irrefl _)
    · rcases hk' k h1 h2 with a' | ⟨a', b'⟩
      · exact absurd (a.symm ▸ a') (lt_irrefl _)
      · omega
  rw [hw, hw', e]

/-- Two neighbouring ranges join: the later range's entry is taken exactly when it is strictly less. -/
theorem FirstIn.join {d : Fin 1024 → EReal} {lo mid hi : ℕ} {v v' : EReal} {w w' : BitVec 32}
    (hm : lo ≤ mid) (hh : mid ≤ hi) (h : FirstIn d lo mid v w) (h' : FirstIn d mid hi v' w') :
    FirstIn d lo hi (if v' < v then v' else v) (if v' < v then w' else w) := by
  obtain ⟨k, h1, h2, rfl, rfl, hk⟩ := h
  obtain ⟨k', h1', h2', rfl, rfl, hk'⟩ := h'
  by_cases hlt : d k' < d k
  · rw [if_pos hlt, if_pos hlt]
    refine ⟨k', by omega, h2', rfl, rfl, fun l a b => ?_⟩
    by_cases hl : l.val < mid
    · left
      rcases hk l a hl with c | ⟨c, -⟩
      · exact hlt.trans c
      · exact c ▸ hlt
    · exact hk' l (by omega) b
  · rw [if_neg hlt, if_neg hlt]
    refine ⟨k, h1, by omega, rfl, rfl, fun l a b => ?_⟩
    by_cases hl : l.val < mid
    · exact hk l a hl
    · have hle : d k ≤ d k' := not_lt.mp hlt
      rcases hk' l (by omega) b with c | ⟨c, -⟩
      · exact Or.inl (lt_of_le_of_lt hle c)
      · rcases lt_or_eq_of_le hle with c' | c'
        · exact Or.inl (c ▸ c')
        · exact Or.inr ⟨c'.trans c, by omega⟩

section Pick
variable {α ι : Type} (r : α → α → Prop) (op : α → α → α)

/-- `op` picks one of its two operands, one that is below both. -/
def Picks : Prop := ∀ x y, (op x y = x ∨ op x y = y) ∧ r (op x y) x ∧ r (op x y) y

variable {r op}

/-- A fold of a picking operation along a list ends at its start or a member, below all of them. -/
theorem Picks.foldl (hp : Picks r op) (hr : ∀ x, r x x) (ht : ∀ x y z, r x y → r y z → r x z) (L : List α) (b : α) :
    (L.foldl op b = b ∨ L.foldl op b ∈ L) ∧ r (L.foldl op b) b ∧ ∀ x ∈ L, r (L.foldl op b) x := by
  induction L generalizing b with
  | nil => exact ⟨Or.inl rfl, hr b, fun x hx => nomatch hx⟩
  | cons a L ih =>
    obtain ⟨h1, h2, h3⟩ := ih (op b a)
    obtain ⟨p1, p2, p3⟩ := hp b a
    rw [List.foldl_cons]
    refine ⟨?_, ht _ _ _ h2 p2, fun x hx => ?_⟩
    · rcases h1 with h1 | h1
      · rcases p1 with p1 | p1
        · exact Or.inl (h1.trans p1)
        · exact Or.inr (List.mem_cons.mpr (Or.inl (h1.trans p1)))
      · exact Or.inr (List.mem_cons_of_mem _ h1)
    · rcases List.mem_cons.mp hx with rfl | hx
      · exact ht _ _ _ h2 p3
      · exact h3 x hx

/-- A fold of a picking operation over a set ends at its start or an entry, below all of them. -/
theorem Picks.fold [Std.Commutative op] [Std.Associative op] (hp : Picks r op) (hr : ∀ x, r x x)
    (ht : ∀ x y z, r x y → r y z → r x z) (b : α) (f : ι → α) (s : Finset ι) :
    (s.fold op b f = b ∨ ∃ i ∈ s, s.fold op b f = f i) ∧ r (s.fold op b f) b ∧ ∀ i ∈ s, r (s.fold op b f) (f i) := by
  induction s using Finset.cons_induction with
  | empty => exact ⟨Or.inl rfl, hr b, fun x hx => nomatch hx⟩
  | cons a s ha ih =>
    obtain ⟨h1, h2, h3⟩ := ih
    rw [Finset.fold_cons]
    obtain ⟨p1, p2, p3⟩ := hp (f a) (s.fold op b f)
    refine ⟨?_, ht _ _ _ p3 h2, fun i hi => ?_⟩
    · rcases p1 with p1 | p1
      · exact Or.inr ⟨a, Finset.mem_cons_self a s, p1⟩
      · rcases h1 with h1 | ⟨i, hi, h1⟩
        · exact Or.inl (p1.trans h1)
        · exact Or.inr ⟨i, Finset.mem_cons_of_mem hi, p1.trans h1⟩
    · rcases Finset.mem_cons.mp hi with rfl | hi
      · exact p2
      · exact ht _ _ _ p3 (h3 i hi)

end Pick

/-- The lesser of two extended reals is a pick. -/
theorem picks_min : Picks (fun x y : EReal => x ≤ y) min :=
  fun x y => ⟨min_choice x y, min_le_left x y, min_le_right x y⟩

/-- The lesser of two words read as signed integers is a pick. -/
theorem picks_slt : Picks (fun x y : BitVec 32 => x.toInt ≤ y.toInt) (fun x y => if x.slt y then x else y) := by
  intro x y
  by_cases h : x.slt y
  · have := BitVec.slt_iff_toInt_lt.mp h
    simp only [h, if_true]
    exact ⟨Or.inl trivial, le_rfl, by omega⟩
  · have : ¬ x.toInt < y.toInt := fun c => h (BitVec.slt_iff_toInt_lt.mpr c)
    simp only [h]
    exact ⟨Or.inr (by simp), by simp; omega, by simp⟩

/-- A position below 1024 read as a signed integer is itself. -/
theorem toInt_ofNat_of_le (n : ℕ) (h : n ≤ 1024) : (BitVec.ofNat 32 n).toInt = (n : ℤ) := by
  rw [BitVec.toInt_eq_toNat_cond, BitVec.toNat_ofNat, Nat.mod_eq_of_lt (by omega), if_pos (by omega)]

/-- One block of 256 entries, as the kernel finds its first least entry: `M` is at most every entry and is the
    largest value or an entry, and `W` is the least, read as a signed integer, of the positions of the entries that
    are at most `M`, every other position replaced by 1024, or the largest word. -/
theorem block (d : Fin 1024 → EReal) (j : ℕ) (hj : j < 4) (e : Fin 256 → EReal)
    (he : ∀ (r : Fin 256) (h : j * 256 + r.val < 1024), e r = d ⟨j * 256 + r.val, h⟩) (M : EReal)
    (hM : (M = ⊤ ∨ ∃ r, M = e r) ∧ ∀ r, M ≤ e r)
    (g : Fin 256 → BitVec 32) (hg : ∀ r, e r ≤ M → g r = BitVec.ofNat 32 (j * 256 + r.val))
    (hg' : ∀ r, ¬ e r ≤ M → g r = 1024#32) (W : BitVec 32)
    (hW : (W = 2147483647#32 ∨ ∃ r, W = g r) ∧ ∀ r, W.toInt ≤ (g r).toInt) :
    FirstIn d (j * 256) ((j + 1) * 256) M W := by
  have hle := hM.2
  obtain ⟨r0, hr0⟩ : ∃ r, M = e r := by
    rcases hM.1 with h | h
    · exact ⟨0, le_antisymm (hle 0) (h ▸ le_top)⟩
    · exact h
  have h0 := hW.2 r0
  rw [hg r0 hr0.ge, toInt_ofNat_of_le _ (by omega)] at h0
  have hr0l := r0.isLt
  obtain ⟨r, hr⟩ : ∃ r, W = g r := by
    rcases hW.1 with h | h
    · have : W.toInt = 2147483647 := by rw [h]; decide
      omega
    · exact h
  have hrl := r.isLt
  have hrM : e r ≤ M := by
    by_contra hn
    have : W.toInt = 1024 := by rw [hr, hg' r hn]; decide
    omega
  have hMr : M = e r := le_antisymm (hle r) hrM
  have hWi : W.toInt = ((j * 256 + r.val : ℕ) : ℤ) := by rw [hr, hg r hrM, toInt_ofNat_of_le _ (by omega)]
  refine ⟨⟨j * 256 + r.val, by omega⟩, Nat.le_add_right _ _, by simp only; omega, hMr.trans (he r (by omega)),
    hr.trans (hg r hrM), fun l h1 h2 => ?_⟩
  have hlr : l.val - j * 256 < 256 := by omega
  have hel : e ⟨l.val - j * 256, hlr⟩ = d l := by
    rw [he _ (by simp only; omega)]
    exact congrArg d (Fin.ext (by simp only; omega))
  rw [← he r (by omega), ← hMr]
  by_cases hlM : e ⟨l.val - j * 256, hlr⟩ ≤ M
  · right
    refine ⟨le_antisymm (hel ▸ hle _) (hel ▸ hlM), ?_⟩
    have := hW.2 ⟨l.val - j * 256, hlr⟩
    rw [hg _ hlM, toInt_ofNat_of_le _ (by simp only; omega), hWi] at this
    simp only at this ⊢
    omega
  · left
    rw [← hel]
    exact not_le.mp hlM

end Cert.Proof.First

end
-- ==== Proof.RefValue.lean ====
/-
  The reference's result read at an index over the extended reals: its distances entry by entry, and its arg-min as
  the position of a row's first least entry.
-/
module

public import Idealize.ShloMosaic.Lib.Pointwise
public import Idealize.ShloMosaic.PureOps.Ideal.Laws
public import proofs.«01_k».proof.Proof.RefRun
public import proofs.«01_k».proof.Proof.First

@[expose] public section

set_option maxRecDepth 16384

noncomputable section

namespace Cert.Proof.Ref

open Cert.ReferenceIdeal Cert.ReferenceIdeal.Gen
open Idealize.ShloMosaic Cert.Proof.First

/-- The distance of a batch row to a code row: the two squared norms less twice the inner product. -/
def D (x e : Fin 16384 → EReal) : EReal :=
  ((∑ i, x i * x i) + ∑ i, e i * e i) - (FloatOps.ofBits (F := Ideal) .f32 0x40000000#32 : EReal) * ∑ i, x i * e i

/-- The reference's distance at batch row `b` and code row `k`. -/
theorem dist_apply (x : FVec Ideal S256x16384 .f32) (e : FVec Ideal S1024x16384 .f32) (b : Fin 256) (k : Fin 1024) :
    dist (F := Ideal) x e (ix2 b k) = D (fun i => x (ix2 b i)) (fun i => e (ix2 k i)) := by
  pointwise [dist, D]

/-- The word both programs start a minimum from is the largest extended real. -/
theorem top_word : (FloatOps.ofBits (F := Ideal) .f32 0x7F800000#32 : EReal) = ⊤ := by
  show Ideal.ofBits .f32 0x7F800000#32 = ⊤
  simp [Ideal.ofBits, Ideal.ieee]

/-- The reducer picks one of its two pairs, one that is lexicographically at most both. -/
theorem picks_reducer : Picks (fun p q : EReal × BitVec 32 => p.1 < q.1 ∨ (p.1 = q.1 ∧ p.2.toInt ≤ q.2.toInt))
    (reducer_argmin_f32_i32 (F := Ideal)) := by
  rintro ⟨v, w⟩ ⟨v', w'⟩
  simp only [reducer_argmin_f32_i32, Ideal.cmpf_def, Ideal.cmp, IntOp.ori, IntOp.andi, IntOp.cmpi, Scalar.select]
  rcases lt_trichotomy v v' with h | h | h
  · simp [h, h.ne]
  · subst h
    by_cases hs : w.slt w'
    · have := BitVec.slt_iff_toInt_lt.mp hs
      simp [hs]; omega
    · have : ¬ w.toInt < w'.toInt := fun c => hs (BitVec.slt_iff_toInt_lt.mpr c)
      simp [hs]; omega
  · simp [h, not_lt_of_gt h, h.ne']

/-- The pairs the reference folds over at row `j` are the row's entries, each with its column's word. -/
theorem mem_fiber (d : FVec Ideal S256x1024 .f32) (j : Fin 256) (p : EReal × BitVec 32) :
    p ∈ Host.argReduceFiber (α := EReal) d (iotaInDim S256x1024 32 1) reducesTo_S256x1024_S256_d1 (ix1 j)
      ↔ ∃ k : Fin 1024, p = (d (ix2 j k), BitVec.ofNat 32 k.val) := by
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 reducesTo_S256x1024_S256_d1 _ _).mp hn
    rw [← hk]
    exact ⟨k, rfl⟩
  · rintro ⟨k, rfl⟩
    refine ⟨S256x1024.rowMajor (ix2 j k), ?_, ?_⟩
    · rw [Equiv.symm_apply_apply]
      exact (Shape.ReducesTo.fiber_r2_a1 reducesTo_S256x1024_S256_d1 _ _).mpr ⟨k, rfl⟩
    · rw [Equiv.symm_apply_apply]; rfl

/-- The reference's arg-min at row `j` is the position of the row's first least entry. -/
theorem argmin_first (d : FVec Ideal S256x1024 .f32) (j : Fin 256) :
    ∃ v, FirstIn (fun k => d (ix2 j k)) 0 1024 v (argmin (F := Ideal) d (ix1 j)) := by
  unfold argmin
  rw [Ideal.argReduce_eq_reduce2, Host.reduce2_eq_foldl_fiber]
  obtain ⟨h1, -, h3⟩ := picks_reducer.foldl (fun x => Or.inr ⟨rfl, le_rfl⟩)
    (fun x y z hxy hyz => by
      rcases hxy with a | ⟨a, a'⟩ <;> rcases hyz with b | ⟨b, b'⟩
      · exact Or.inl (a.trans b)
      · exact Or.inl (b ▸ a)
      · exact Or.inl (a.symm ▸ b)
      · exact Or.inr ⟨a.trans b, a'.trans b'⟩)
    (Host.argReduceFiber (α := EReal) d (iotaInDim S256x1024 32 1) reducesTo_S256x1024_S256_d1 (ix1 j))
    ((constant S_ .f32 0x7F800000#32 : FVec Ideal S_ .f32) (Shape.Idx.first h_S_), (constantI S_ 32 0#32) (Shape.Idx.first h_S_))
  generalize List.foldl _ _ _ = p at h1 h3 ⊢
  have h0 := h3 (d (ix2 j 0), BitVec.ofNat 32 0) ((mem_fiber d j _).mpr ⟨0, rfl⟩)
  obtain ⟨k, rfl⟩ : ∃ k : Fin 1024, p = (d (ix2 j k), BitVec.ofNat 32 k.val) := by
    rcases h1 with h1 | h1
    · refine ⟨0, ?_⟩
      subst h1
      have ht : ((constant S_ .f32 0x7F800000#32 : FVec Ideal S_ .f32) (Shape.Idx.first h_S_) : EReal) = ⊤ := top_word
      rw [ht] at h0 ⊢
      rcases h0 with h0 | ⟨h0, -⟩
      · exact absurd h0 not_top_lt
      · exact Prod.ext h0 rfl
    · exact (mem_fiber d j _).mp h1
  refine ⟨d (ix2 j k), k, Nat.zero_le _, k.isLt, rfl, rfl, fun l _ _ => ?_⟩
  rcases h3 (d (ix2 j l), BitVec.ofNat 32 l.val) ((mem_fiber d j _).mpr ⟨l, rfl⟩) with h | ⟨h, h'⟩
  · exact Or.inl h
  · refine Or.inr ⟨h, ?_⟩
    rw [toInt_ofNat_of_le _ (by omega), toInt_ofNat_of_le _ (by omega)] at h'
    exact_mod_cast h'

end Cert.Proof.Ref

end
-- ==== Proof.Payload.lean ====
/-
  The kernel's payloads read at an index over the extended reals: the squared norms, a block's distances, and a
  block's minimum with its position, which are the block's first least entry.
-/
module

public import Idealize.ShloMosaic.Lib.Pointwise
public import proofs.«01_k».proof.Proof.Gen.KernelIdeal.Skeleton
public import proofs.«01_k».proof.Proof.Gen.KernelIdeal
public import proofs.«01_k».proof.Proof.RefValue

@[expose] public section

set_option maxRecDepth 16384

noncomputable section

namespace Cert.Proof.Payload

open Cert.KernelIdeal Cert.KernelIdeal.Gen
open Idealize.ShloMosaic Cert.Proof.First Cert.Proof.Ref

/-- The first point's squared norms. -/
theorem pay4_apply (x : Vec Ideal S16384x256 .f32) (b : Fin 256) :
    k0_pay4 (F := Ideal) x (ix2 0 b) = ∑ i : Fin 16384, x (ix2 i b) * x (ix2 i b) := by
  pointwise [k0_pay4]

/-- A block's distances: entry `(r, b)` is the distance of batch row `b` to the block's code row `r`. -/
theorem pay5_apply (e : Vec Ideal S256x16384 .f32) (x : Vec Ideal S16384x256 .f32) (q : Vec Ideal S1x256 .f32)
    (r b : Fin 256) (hq : q (ix2 0 b) = ∑ i : Fin 16384, x (ix2 i b) * x (ix2 i b)) :
    k0_pay5 (F := Ideal) e x e q (ix2 r b) = D (fun i => x (ix2 i b)) (fun i => e (ix2 r i)) := by
  have hc : (∑ i : Fin 16384, x (ix2 i b) * e (ix2 r i) : EReal) = ∑ i : Fin 16384, e (ix2 r i) * x (ix2 i b) :=
    Finset.sum_congr rfl fun i _ => mul_comm _ _
  unfold D
  rw [hc]
  pointwise [k0_pay5, hq]

/-- A block's minimum at batch row `b` is the fold of its column's entries. -/
theorem pay6_apply (e : Vec Ideal S256x16384 .f32) (x : Vec Ideal S16384x256 .f32) (q : Vec Ideal S1x256 .f32)
    (b : Fin 256) :
    k0_pay6 (F := Ideal) e x e q (ix2 0 b)
      = (Finset.univ : Finset (Fin 256)).fold min (⊤ : EReal) (fun r => k0_pay5 (F := Ideal) e x e q (ix2 r b)) := by
  rw [← top_word]
  pointwise [k0_pay6]

/-- A block's position at batch row `b` is the signed least of its column's positions, those above the minimum masked. -/
theorem pay7_apply (i : grid0.Coords) (e : Vec Ideal S256x16384 .f32) (x : Vec Ideal S16384x256 .f32) (q : Vec Ideal S1x256 .f32)
    (b : Fin 256) :
    k0_pay7 (F := Ideal) i e x e q (ix2 0 b)
      = (Finset.univ : Finset (Fin 256)).fold IntOp.minsi 2147483647#32 (fun r =>
          if k0_pay5 (F := Ideal) e x e q (ix2 r b) ≤ k0_pay6 (F := Ideal) e x e q (ix2 0 b) then
            IntOp.addi (BitVec.ofNat 32 r.val) (Scalar.muli (BitVec.ofNat 32 (i 0).val) 256#32)
          else 1024#32) := by
  pointwise [k0_pay7]

/-- The running minimum is replaced where the block's is smaller. -/
theorem pay2_apply (u v : Vec Ideal S1x256 .f32) (b : Fin 256) :
    k0_pay2 (F := Ideal) u v v (ix2 0 b) = if u (ix2 0 b) < v (ix2 0 b) then u (ix2 0 b) else v (ix2 0 b) := by
  pointwise [k0_pay2, k0_pay1]

/-- The running position is replaced where the block's minimum is smaller. -/
theorem pay3_apply (u v : Vec Ideal S1x256 .f32) (w w' : Vec Ideal S1x256 .i32) (b : Fin 256) :
    k0_pay3 (F := Ideal) u w v w' (ix2 0 b) = if u (ix2 0 b) < v (ix2 0 b) then w (ix2 0 b) else w' (ix2 0 b) := by
  pointwise [k0_pay3, k0_pay1]

/-- The first point's minimum is the block's. -/
theorem pay8_eq (e : Vec Ideal S256x16384 .f32) (x : Vec Ideal S16384x256 .f32) (q : Vec Ideal S1x256 .f32) (b : Fin 256) :
    k0_pay8 (F := Ideal) e x e q (ix2 0 b) = k0_pay6 (F := Ideal) e x e q (ix2 0 b) := by
  pointwise [k0_pay8]

/-- The first point's position is the block's. -/
theorem pay9_eq (i : grid0.Coords) (e : Vec Ideal S256x16384 .f32) (x : Vec Ideal S16384x256 .f32) (q : Vec Ideal S1x256 .f32)
    (b : Fin 256) :
    k0_pay9 (F := Ideal) i e x e q (ix2 0 b) = k0_pay7 (F := Ideal) i e x e q (ix2 0 b) := by
  pointwise [k0_pay9]

/-- The word of a block's row is its position among all the codes. -/
theorem word_eq (j r : Nat) :
    IntOp.addi (BitVec.ofNat 32 r) (Scalar.muli (BitVec.ofNat 32 j) 256#32) = BitVec.ofNat 32 (j * 256 + r) := by
  show BitVec.ofNat 32 r + BitVec.ofNat 32 j * BitVec.ofNat 32 256 = _
  rw [← BitVec.ofNat_mul, ← BitVec.ofNat_add, Nat.add_comm]

/-- A block's minimum and position are the block's first least distance, for every batch row. -/
theorem block_first (i : grid0.Coords) (j : Nat) (hj : j < 4) (hi : (i 0).val = j)
    (e : Vec Ideal S256x16384 .f32) (x : Vec Ideal S16384x256 .f32) (q : Vec Ideal S1x256 .f32) (b : Fin 256)
    (hq : q (ix2 0 b) = ∑ i : Fin 16384, x (ix2 i b) * x (ix2 i b)) (d : Fin 1024 → EReal)
    (hd : ∀ (r : Fin 256) h, D (fun i => x (ix2 i b)) (fun i => e (ix2 r i)) = d ⟨j * 256 + r.val, h⟩) :
    FirstIn d (j * 256) ((j + 1) * 256) (k0_pay6 (F := Ideal) e x e q (ix2 0 b)) (k0_pay7 (F := Ideal) i e x e q (ix2 0 b)) := by
  have h6 := pay6_apply e x q b
  have h7 := pay7_apply i e x q b
  have h5 := fun r => pay5_apply e x q r b hq
  simp only [h5] at h6 h7
  rw [hi] at h7
  simp only [word_eq] at h7
  obtain ⟨a1, -, a3⟩ := Picks.fold picks_min (fun _ => le_rfl) (fun _ _ _ => le_trans) (⊤ : EReal)
    (fun r : Fin 256 => D (fun i => x (ix2 i b)) (fun i => e (ix2 r i))) Finset.univ
  rw [← h6] at a1 a3
  obtain ⟨c1, -, c3⟩ := Picks.fold (op := IntOp.minsi) picks_slt (fun _ => le_rfl) (fun _ _ _ => le_trans) (2147483647#32)
    (fun r : Fin 256 => if D (fun i => x (ix2 i b)) (fun i => e (ix2 r i)) ≤ k0_pay6 (F := Ideal) e x e q (ix2 0 b) then
      BitVec.ofNat 32 (j * 256 + r.val) else 1024#32) Finset.univ
  rw [← h7] at c1 c3
  exact block d j hj _ hd _ ⟨a1.imp id fun ⟨r, _, h⟩ => ⟨r, h⟩, fun r => a3 r (Finset.mem_univ r)⟩ _
    (fun r h => if_pos h) (fun r h => if_neg h) _
    ⟨c1.imp id fun ⟨r, _, h⟩ => ⟨r, h⟩, fun r => c3 r (Finset.mem_univ r)⟩

end Cert.Proof.Payload

end
-- ==== Proof.Points.lean ====
/-
  The kernel over its grid, at the extended reals: each point's blocks read at an index, and by induction on the point
  the running minimum and position of every batch row are the first least distance among the codes seen so far. After
  the last point the output holds the position of the first least distance among all codes.
-/
module

public import proofs.«01_k».proof.Proof.Scratch
public import proofs.«01_k».proof.Proof.Payload
public import Idealize.ShloMosaic.Lib.StableHlo.Run

@[expose] public section

set_option maxRecDepth 16384

noncomputable section

namespace Cert.Proof.Points

open Cert.KernelIdeal Cert.KernelIdeal.Gen
open Idealize.ShloMosaic Idealize.ShloMosaic.TcCoe Idealize.SL.Sem Idealize.ShloMosaic.StableHlo
open Cert.Proof.First Cert.Proof.Ref

variable (m : (ℓ : Loc nD τ sig) → Buf (Elt Ideal) ℓ) (c : Dev nD)

/-- The flattened input, one row per batch entry. -/
def xf : FVec Ideal S256x16384 .f32 := flat (F := Ideal) (m ((c : Thread nD τ).loc main_arg0))

/-- The table, one row per code. -/
def tab : FVec Ideal S1024x16384 .f32 := m ((c : Thread nD τ).loc main_arg1)

/-- The distances of batch row `b` to the codes. -/
def dRow (b : Fin 256) (k : Fin 1024) : EReal := D (fun i => xf m c (ix2 b i)) (fun i => tab m c (ix2 k i))

/-- The first window's array is the flattened input transposed. -/
theorem V_main_v1 : V m c main_v1
    = transpose S16384x256 [1, 0] (xf m c) transposes_S256x16384_S16384x256_1_0 := by
  show after (List.flatten [hostOps0]) _ (main_v1 : DevRef τ sig) = _
  simp only [List.flatten_cons, List.flatten_nil, List.append_nil]
  after_results
  rfl

/-- The grid coordinate of a point is its position. -/
theorem coord (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  omega

/-- The second window's block index at a point is the point. -/
theorem index1 (t : Fin cfg0.N) : win0_1.index t 0 = t.val := by
  have ht : t.val < 4 := Nat.lt_of_lt_of_eq t.isLt N_0
  show (BitVec.ofNat 32 (grid0.coords t 0).val).toNat = t.val
  rw [coord, BitVec.toNat_ofNat]
  omega

/-- Every point reads the whole transposed input. -/
theorem iblk0_apply (t : Fin cfg0.N) (i : Fin 16384) (b : Fin 256) :
    (iblk m c 0 t : Vec Ideal S16384x256 .f32) (ix2 i b) = xf m c (ix2 b i) := by
  unfold iblk
  rw [View.read_apply]
  show V m c main_v1 _ = _
  rw [V_main_v1]
  unfold transpose
  congr 1
  funext a
  apply Fin.ext
  match a with
  | ⟨0, _⟩ => show 0 * 256 + 1 * b.val = b.val; omega
  | ⟨1, _⟩ => show 0 * 16384 + 1 * i.val = i.val; omega

/-- Point `t` reads the codes from `256 t` on. -/
theorem iblk1_apply (t : Fin cfg0.N) (r : Fin 256) (i : Fin 16384) (h : t.val * 256 + r.val < 1024) :
    (iblk m c 1 t : Vec Ideal S256x16384 .f32) (ix2 r i) = tab m c (ix2 ⟨t.val * 256 + r.val, h⟩ i) := by
  unfold iblk
  rw [View.read_apply]
  show V m c main_arg1 _ = _
  rw [V_main_arg1]
  unfold tab
  congr 1
  funext a
  apply Fin.ext
  match a with
  | ⟨0, _⟩ => show win0_1.index t 0 * 256 + 1 * r.val = t.val * 256 + r.val; rw [index1]; omega
  | ⟨1, _⟩ => show 0 * 16384 + 1 * i.val = i.val; omega

/-- A point's block minimum and position, given the squared norms, are the first least distance among its codes. -/
theorem block_at (t : Fin cfg0.N) (q : Vec Ideal S1x256 .f32) (b : Fin 256)
    (hq : q (ix2 0 b) = ∑ i : Fin 16384, xf m c (ix2 b i) * xf m c (ix2 b i)) :
    FirstIn (dRow m c b) (t.val * 256) ((t.val + 1) * 256)
      (k0_pay6 (F := Ideal) (iblk m c 1 t) (iblk m c 0 t) (iblk m c 1 t) q (ix2 0 b))
      (k0_pay7 (F := Ideal) (grid0.coords t) (iblk m c 1 t) (iblk m c 0 t) (iblk m c 1 t) q (ix2 0 b)) := by
  have ht : t.val < 4 := Nat.lt_of_lt_of_eq t.isLt N_0
  refine Payload.block_first (grid0.coords t) t.val ht (coord t) (iblk m c 1 t) (iblk m c 0 t) q b ?_ _ fun r h => ?_
  · rw [hq]
    exact Finset.sum_congr rfl fun i _ => by rw [iblk0_apply]
  · unfold dRow
    rw [funext fun i => iblk0_apply m c t i b, funext fun i => iblk1_apply m c t r i h]

/-- The squared norms the first point leaves. -/
theorem norms (t : Fin cfg0.N) (b : Fin 256) : k0_pay4 (F := Ideal) (iblk m c 0 t) (ix2 0 b)
    = ∑ i : Fin 16384, xf m c (ix2 b i) * xf m c (ix2 b i) := by
  rw [Payload.pay4_apply]
  exact Finset.sum_congr rfl fun i _ => by rw [iblk0_apply]

/-- After each point but the last: the norms, and the running minimum and position as the first least distance so far. -/
theorem running : ∀ (n : ℕ) (hn : n < cfg0.N) (h3 : n < 3) (b : Fin 256),
    (outsAt0 m c n hn).2.1 (ix2 0 b) = ∑ i : Fin 16384, xf m c (ix2 b i) * xf m c (ix2 b i)
    ∧ FirstIn (dRow m c b) 0 ((n + 1) * 256) ((outsAt0 m c n hn).2.2.1 (ix2 0 b)) ((outsAt0 m c n hn).2.2.2 (ix2 0 b))
  | 0, hn, _, b => by
    rw [outsAt0_A m c ⟨0, hn⟩ rfl rfl (Nat.not_succ_le_zero 0) (by dsimp only; omega)]
    dsimp only
    rw [Scratch.sout_A_0, Scratch.sout_A_1, Scratch.sout_A_2, Payload.pay8_eq, Payload.pay9_eq]
    have hq := norms m c ⟨0, hn⟩ b
    have := block_at m c ⟨0, hn⟩ (k0_pay4 (F := Ideal) (iblk m c 0 ⟨0, hn⟩)) b hq
    rw [Nat.zero_mul] at this
    exact ⟨hq, this⟩
  | n + 1, hn, h3, b => by
    obtain ⟨hq, hf⟩ := running n (Nat.lt_of_succ_lt hn) (by omega) b
    rw [outsAt0_B m c ⟨n + 1, hn⟩ (by dsimp only; omega) (by dsimp only; omega) (by dsimp only; omega) (by dsimp only; omega)]
    dsimp only
    rw [Scratch.sout_B_1, Scratch.sout_B_2, Payload.pay2_apply, Payload.pay3_apply]
    exact ⟨hq, hf.join (by omega) (by omega) (block_at m c ⟨n + 1, hn⟩ _ b hq)⟩

/-- After the last point the output holds the position of the first least distance among all codes. -/
theorem last (hn : 3 < cfg0.N) (b : Fin 256) :
    ∃ v, FirstIn (dRow m c b) 0 1024 v ((outsAt0 m c 3 hn).1 (ix2 0 b)) := by
  obtain ⟨hq, hf⟩ := running m c 2 (Nat.lt_of_succ_lt hn) (by omega) b
  rw [outsAt0_C m c ⟨3, hn⟩ (by dsimp only; omega) (by dsimp only; omega) (by dsimp only; omega) rfl]
  dsimp only
  rw [Scratch.out_C_2, Payload.pay3_apply]
  exact ⟨_, hf.join (by omega) (by omega) (block_at m c ⟨3, hn⟩ _ b hq)⟩

end Cert.Proof.Points

end
-- ==== Proof.Out.lean ====
/-
  The kernel's run, read: the output array ends holding what the last point left, the reshape after the launch makes it
  the result, and the result is the reference's value of the two arguments.
-/
module

public import proofs.«01_k».proof.Proof.Points
public import Idealize.ShloMosaic.Lib.Pipeline.Value

@[expose] public section

set_option maxRecDepth 16384

noncomputable section

namespace Cert.Proof.Out

open Cert.KernelIdeal Cert.KernelIdeal.Gen
open Idealize.ShloMosaic Idealize.ShloMosaic.TcCoe Idealize.SL.Sem Idealize.ShloMosaic.StableHlo
open Idealize.ShloMosaic.Pipeline (Dat)
open Cert.Proof.First Cert.Proof.Ref

variable (m : (ℓ : Loc nD τ sig) → Buf (Elt Ideal) ℓ) (ρ : Dev nD → PrngReg) (c : Dev nD)

/-- The last point is one of the grid's. -/
theorem lt3 : 3 < cfg0.N := by rw [show cfg0.N = 4 from N_0]; decide

/-- What the last point leaves in the output's staging buffer, as contents of the output array. -/
abbrev row : Buf (Elt Ideal) ((c : Thread nD τ).loc main_v2) := (outsAt0 m c 3 lt3).1

/-- The write-back, at the last point, writes it. -/
theorem flushed_eq (t : Fin cfg0.N) (hf : (cfg0.win 2).flush t = true) :
    (dats m 0 c).flushed 2 t = ((cfg0.win 2).blk t).view.read (Elt Ideal) (row m c) := by
  have ht : t.val < 4 := Nat.lt_of_lt_of_eq t.isLt N_0
  have h3 : t.val = 3 := by have := (flush0_2 t).mp hf; omega
  obtain rfl : t = ⟨3, lt3⟩ := Fin.ext h3
  show (cfg0.win 2).cut (grid0.coords ⟨3, lt3⟩) ((dats m 0 c).after 2 ⟨3, lt3⟩) = _
  rw [after0_2]
  have hz' : (fun a => win0_2.index ⟨3, lt3⟩ a * main_v2.ty.shape.size a) = fun _ => 0 := funext fun a => by fin_cases a <;> rfl
  exact (Memref.read_access_unit_zero (Elt Ideal) main_v2 hz' (fun a => by rw [congrFun hz' a]; simp) (row m c)).symm

/-- So the output array ends holding it. -/
theorem final : (dats m 0 c).arrAt 2 cfg0.N = row m c :=
  (dats m 0 c).arrAt_eq_of_cover 2 (row m c) (flushed_eq m c) fun i =>
    ⟨⟨3, lt3⟩, (flush0_2 ⟨3, lt3⟩).mpr rfl, by
      show i ∈ ((View.whole main_v2).slice (win0_2.rect ⟨3, lt3⟩)).set
      rw [View.set_slice_whole, Rect.mem_set_unit]
      intro a
      have h0 : (i 0 : Nat) < 1 := (i 0).isLt
      have h1 : (i 1 : Nat) < 256 := (i 1).isLt
      match a with
      | ⟨0, _⟩ => show 0 * 1 ≤ (i 0 : Nat) ∧ (i 0 : Nat) < 0 * 1 + 1; omega
      | ⟨1, _⟩ => show 0 * 256 ≤ (i 1 : Nat) ∧ (i 1 : Nat) < 0 * 256 + 256; omega⟩

/-- The result is the output array reshaped. -/
theorem tail_eq : Pipeline.afterTail₀ cfgs (dats m) 0 (V0 m) [hostOps1] c main_v3
    = shapeCast S256 (row m c) shapeCasts_S1x256_S256 := by
  unfold Pipeline.afterTail₀
  simp only [List.flatten_cons, List.flatten_nil, List.append_nil]
  show after hostOps1 _ (main_v3 : DevRef τ sig) = _
  have hw := (Pipeline.withArrays_arr spec0 winFacts0.arr_inj c (V0 m c) (fun w => (dats m 0 c).arrAt w cfg0.N) 2).trans (final m c)
  after_results
  exact congrArg (fun x : Buf (Elt Ideal) ((c : Thread nD τ).loc main_v2) => shapeCast S256 x shapeCasts_S1x256_S256) hw

/-- The kernel's result is the reference's value of its arguments. -/
theorem value_eq : shapeCast S256 (row m c) shapeCasts_S1x256_S256
    = refOut (F := Ideal) (m ((c : Thread nD τ).loc main_arg0)) (m ((c : Thread nD τ).loc main_arg1)) := by
  funext j
  obtain ⟨b, rfl⟩ : ∃ b : Fin 256, j = ix1 b := ⟨j 0, by funext a; match a with | ⟨0, _⟩ => rfl⟩
  obtain ⟨v, hv⟩ := Points.last m c lt3 b
  obtain ⟨v', hv'⟩ := argmin_first (dist (F := Ideal) (Points.xf m c) (Points.tab m c)) b
  have hd : (fun k => dist (F := Ideal) (Points.xf m c) (Points.tab m c) (ix2 b k)) = Points.dRow m c b :=
    funext fun k => dist_apply _ _ b k
  rw [hd] at hv'
  have e : shapeCast S256 (row m c) shapeCasts_S1x256_S256 (ix1 b) = row m c (ix2 0 b) := by
    pointwise
  exact e.trans (hv.word_unique hv')

/-- The run: the result is the reference's value of the arguments, which are unchanged. -/
theorem run : θ_run defs (onTc (τ := τ) (main (F := Ideal))) ⟨m, fun _ => 0, ρ⟩ fun r => ∀ c : Dev nD,
      r.2.mem ((c : Thread nD τ).loc main_v3)
        = refOut (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v3 (Pipeline.mem_restRefs_of main_v3 (by decide) (by decide))).trans ((tail_eq m c).trans (value_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Proof.Out

end
-- ==== Proof.lean ====
module

public import proofs.«01_k».proof.Defs
public import proofs.«01_k».proof.Proof.Gen.Kernel.Frame
public import proofs.«01_k».proof.Proof.Gen.KernelIdeal.Frame
public import proofs.«01_k».proof.Proof.Out
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and, having no semaphores, with every counter zero. -/
theorem quiescent_ref : Cert.quiescent_ReferenceIdeal (hReferenceIdeal := Cert.ReferenceIdeal.Gen.facts) := fun m g _ =>
  (θ_run _ _ _).mono (fun r h => ⟨fun c => (h c).2, sem_eq_zero_of_no_sems rfl _⟩) (Ref.run_main (F := Ideal) m g)

/-- Over the extended reals the kernel's result is the reference's, from memories that agree on the arguments. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => Ref.refOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Out.run m g,
    (θ_run _ _ _).mono (fun r h c => ⟨(h c).1.trans (congrArg₂ (Ref.refOut (F := Ideal)) (hm c).1 (hm c).2), (h c).2⟩)
      (Ref.run_main (F := Ideal) m' g')⟩

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, quiescent_ref, trivial, algebraic⟩

end Cert.Proof

end
